-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "cut" .f32 0xEFA18F08#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v51_0)) (v1 : (c : Dev Cert.KernelIdeal.nD) → Buf (Elt Ideal) ((c.tc : Thread Cert.KernelIdeal.nD Cert.KernelIdeal.τ).loc Cert.KernelIdeal.main_v51_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51_0) = v0 c
          ∧ r.2.mem ((c.tc : Thread Cert.KernelIdeal.nD Cert.KernelIdeal.τ).loc Cert.KernelIdeal.main_v51_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x2048 : Shape := ⟨3, ![1, 2048, 2048]⟩
abbrev S2048x2048 : Shape := ⟨2, ![2048, 2048]⟩
abbrev S2048x128 : Shape := ⟨2, ![2048, 128]⟩
abbrev S2048x16 : Shape := ⟨2, ![2048, 16]⟩
abbrev S2048x32 : Shape := ⟨2, ![2048, 32]⟩
abbrev S66 : Shape := ⟨1, ![66]⟩
abbrev S1x2048x128 : Shape := ⟨3, ![1, 2048, 128]⟩
abbrev S1x2048x64 : Shape := ⟨3, ![1, 2048, 64]⟩
abbrev S1x2048x32 : Shape := ⟨3, ![1, 2048, 32]⟩
abbrev S1x2048x32x1 : Shape := ⟨4, ![1, 2048, 32, 1]⟩
abbrev S1x2048x32x2 : Shape := ⟨4, ![1, 2048, 32, 2]⟩
abbrev S1x2048x16 : Shape := ⟨3, ![1, 2048, 16]⟩
abbrev S_ : Shape := ⟨0, ![]⟩
abbrev S1x2048x16x128 : Shape := ⟨4, ![1, 2048, 16, 128]⟩
abbrev S1x2048x16x64 : Shape := ⟨4, ![1, 2048, 16, 64]⟩
abbrev S1x2048x1x32 : Shape := ⟨4, ![1, 2048, 1, 32]⟩
abbrev S1x2048x16x32 : Shape := ⟨4, ![1, 2048, 16, 32]⟩
abbrev S1x2048x16x32x1 : Shape := ⟨5, ![1, 2048, 16, 32, 1]⟩
abbrev S1x2048x16x32x2 : Shape := ⟨5, ![1, 2048, 16, 32, 2]⟩
abbrev S2048x16x128 : Shape := ⟨3, ![2048, 16, 128]⟩
abbrev S2048x512 : Shape := ⟨2, ![2048, 512]⟩
abbrev S256x2048 : Shape := ⟨2, ![256, 2048]⟩
abbrev S256x16 : Shape := ⟨2, ![256, 16]⟩
abbrev S256x512 : Shape := ⟨2, ![256, 512]⟩
abbrev S256x128 : Shape := ⟨2, ![256, 128]⟩
abbrev S256x1 : Shape := ⟨2, ![256, 1]⟩
abbrev S1 : Shape := ⟨1, ![1]⟩

abbrev nBuf : Space → Nat
  | .hbm => 62
  | .vmem => 9
  | .smem => 2
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S2048x128, .f32⟩
  | .hbm, ⟨3, _⟩ => ⟨S2048x16, .f32⟩
  | .hbm, ⟨4, _⟩ => ⟨S2048x32, .f32⟩
  | .hbm, ⟨5, _⟩ => ⟨S2048x32, .f32⟩
  | .hbm, ⟨6, _⟩ => ⟨S66, .i32⟩
  | .hbm, ⟨7, _⟩ => ⟨S66, .i32⟩
  | .hbm, ⟨8, _⟩ => ⟨S1x2048x128, .f32⟩
  | .hbm, ⟨9, _⟩ => ⟨S1x2048x64, .f32⟩
  | .hbm, ⟨10, _⟩ => ⟨S1x2048x64, .f32⟩
  | .hbm, ⟨11, _⟩ => ⟨S1x2048x32, .f32⟩
  | .hbm, ⟨12, _⟩ => ⟨S1x2048x32, .f32⟩
  | .hbm, ⟨13, _⟩ => ⟨S1x2048x32, .f32⟩
  | .hbm, ⟨14, _⟩ => ⟨S1x2048x32, .f32⟩
  | .hbm, ⟨15, _⟩ => ⟨S1x2048x32, .f32⟩
  | .hbm, ⟨16, _⟩ => ⟨S1x2048x32, .f32⟩
  | .hbm, ⟨17, _⟩ => ⟨S1x2048x32, .f32⟩
  | .hbm, ⟨18, _⟩ => ⟨S1x2048x32, .f32⟩
  | .hbm, ⟨19, _⟩ => ⟨S1x2048x32, .f32⟩
  | .hbm, ⟨20, _⟩ => ⟨S1x2048x32, .f32⟩
  | .hbm, ⟨21, _⟩ => ⟨S1x2048x32x1, .f32⟩
  | .hbm, ⟨22, _⟩ => ⟨S1x2048x32x1, .f32⟩
  | .hbm, ⟨23, _⟩ => ⟨S1x2048x32x2, .f32⟩
  | .hbm, ⟨24, _⟩ => ⟨S1x2048x64, .f32⟩
  | .hbm, ⟨25, _⟩ => ⟨S1x2048x128, .f32⟩
  | .hbm, ⟨26, _⟩ => ⟨S1x2048x16, .f32⟩
  | .hbm, ⟨27, _⟩ => ⟨S_, .f32⟩
  | .hbm, ⟨28, _⟩ => ⟨S1x2048x16, .f32⟩
  | .hbm, ⟨29, _⟩ => ⟨S1x2048x16, .f32⟩
  | .hbm, ⟨30, _⟩ => ⟨S1x2048x2048, .f32⟩
  | .hbm, ⟨31, _⟩ => ⟨S1x2048x16x128, .f32⟩
  | .hbm, ⟨32, _⟩ => ⟨S1x2048x16x64, .f32⟩
  | .hbm, ⟨33, _⟩ => ⟨S1x2048x16x64, .f32⟩
  | .hbm, ⟨34, _⟩ => ⟨S1x2048x1x32, .f32⟩
  | .hbm, ⟨35, _⟩ => ⟨S1x2048x1x32, .f32⟩
  | .hbm, ⟨36, _⟩ => ⟨S1x2048x16x32, .f32⟩
  | .hbm, ⟨37, _⟩ => ⟨S1x2048x16x32, .f32⟩
  | .hbm, ⟨38, _⟩ => ⟨S1x2048x16x32, .f32⟩
  | .hbm, ⟨39, _⟩ => ⟨S1x2048x16x32, .f32⟩
  | .hbm, ⟨40, _⟩ => ⟨S1x2048x16x32, .f32⟩
  | .hbm, ⟨41, _⟩ => ⟨S1x2048x16x32, .f32⟩
  | .hbm, ⟨42, _⟩ => ⟨S1x2048x16x32, .f32⟩
  | .hbm, ⟨43, _⟩ => ⟨S1x2048x16x32, .f32⟩
  | .hbm, ⟨44, _⟩ => ⟨S1x2048x16x32, .f32⟩
  | .hbm, ⟨45, _⟩ => ⟨S1x2048x16x32, .f32⟩
  | .hbm, ⟨46, _⟩ => ⟨S1x2048x16x32, .f32⟩
  | .hbm, ⟨47, _⟩ => ⟨S1x2048x16x32, .f32⟩
  | .hbm, ⟨48, _⟩ => ⟨S1x2048x16x32x1, .f32⟩
  | .hbm, ⟨49, _⟩ => ⟨S1x2048x16x32x1, .f32⟩
  | .hbm, ⟨50, _⟩ => ⟨S1x2048x16x32x2, .f32⟩
  | .hbm, ⟨51, _⟩ => ⟨S1x2048x16x64, .f32⟩
  | .hbm, ⟨52, _⟩ => ⟨S1x2048x16x128, .f32⟩
  | .hbm, ⟨53, _⟩ => ⟨S2048x16x128, .f32⟩
  | .hbm, ⟨54, _⟩ => ⟨S2048x2048, .f32⟩
  | .hbm, ⟨55, _⟩ => ⟨S2048x2048, .bf16⟩
  | .hbm, ⟨56, _⟩ => ⟨S2048x16, .f32⟩
  | .hbm, ⟨57, _⟩ => ⟨S2048x16, .bf16⟩
  | .hbm, ⟨58, _⟩ => ⟨S2048x128, .f32⟩
  | .hbm, ⟨59, _⟩ => ⟨S2048x128, .bf16⟩
  | .hbm, ⟨60, _⟩ => ⟨S2048x512, .f32⟩
  | .hbm, ⟨61, _⟩ => ⟨S2048x512, .i32⟩
  | .local _ .vmem, ⟨0, _⟩ => ⟨S256x2048, .bf16⟩
  | .local _ .vmem, ⟨1, _⟩ => ⟨S256x2048, .bf16⟩
  | .local _ .vmem, ⟨2, _⟩ => ⟨S256x16, .bf16⟩
  | .local _ .vmem, ⟨3, _⟩ => ⟨S256x16, .bf16⟩
  | .local _ .vmem, ⟨4, _⟩ => ⟨S2048x128, .bf16⟩
  | .local _ .vmem, ⟨5, _⟩ => ⟨S256x512, .f32⟩
  | .local _ .vmem, ⟨6, _⟩ => ⟨S256x512, .f32⟩
  | .local _ .vmem, ⟨7, _⟩ => ⟨S256x512, .i32⟩
  | .local _ .vmem, ⟨8, _⟩ => ⟨S256x512, .i32⟩
  | .local _ .smem, ⟨0, _⟩ => ⟨S66, .i32⟩
  | .local _ .smem, ⟨1, _⟩ => ⟨S66, .i32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51_0 : Ref sig .tc := ⟨.hbm, 60, rfl⟩
abbrev main_v51_1 : Ref sig .tc := ⟨.hbm, 61, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c66_i32 : BitVec 32 := 66#32
  let v214 : BitVec 32 := Scalar.addi c0_i32 c66_i32
  let c1_i32 : BitVec 32 := 1#32
  ⟨c0_i32, v214, c1_i32⟩
def k0_off1 (k0_t1 : Fin k0_t1_loop.trips) : Fin 1 → Nat :=
  let c0_i32 : BitVec 32 := 0#32
  let c1_i32 : BitVec 32 := 1#32
  let arg8 : BitVec 32 := Scf.iv c0_i32 c1_i32 k0_t1
  let v224 : Index := Scalar.indexCast arg8
  ![v224.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S66 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S66 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "cut" => some ⊥
  | "mask" => some ⊥
  | _ => none
-- ==== ReferenceIdeal.lean ====
abbrev S1x2048x2048 : Shape := ⟨3, ![1, 2048, 2048]⟩
abbrev S2048x2048 : Shape := ⟨2, ![2048, 2048]⟩
abbrev S2048x128 : Shape := ⟨2, ![2048, 128]⟩
abbrev S2048x16 : Shape := ⟨2, ![2048, 16]⟩
abbrev S2048x32 : Shape := ⟨2, ![2048, 32]⟩
abbrev S1x2048x16x128 : Shape := ⟨4, ![1, 2048, 16, 128]⟩
abbrev S1x2048x128 : Shape := ⟨3, ![1, 2048, 128]⟩
abbrev S1x2048x16x64 : Shape := ⟨4, ![1, 2048, 16, 64]⟩
abbrev S1x2048x1x32 : Shape := ⟨4, ![1, 2048, 1, 32]⟩
abbrev S1x2048x16x32 : Shape := ⟨4, ![1, 2048, 16, 32]⟩
abbrev S1x2048x16x32x1 : Shape := ⟨5, ![1, 2048, 16, 32, 1]⟩
abbrev S1x2048x16x32x2 : Shape := ⟨5, ![1, 2048, 16, 32, 2]⟩
abbrev S1x2048x64 : Shape := ⟨3, ![1, 2048, 64]⟩
abbrev S1x2048x32 : Shape := ⟨3, ![1, 2048, 32]⟩
abbrev S1x2048x32x1 : Shape := ⟨4, ![1, 2048, 32, 1]⟩
abbrev S1x2048x32x2 : Shape := ⟨4, ![1, 2048, 32, 2]⟩
abbrev S1x2048x16 : Shape := ⟨3, ![1, 2048, 16]⟩
abbrev S_ : Shape := ⟨0, ![]⟩
abbrev S1x2048x16x2048 : Shape := ⟨4, ![1, 2048, 16, 2048]⟩
abbrev S1x2048x512 : Shape := ⟨3, ![1, 2048, 512]⟩
abbrev S2048x512 : Shape := ⟨2, ![2048, 512]⟩

abbrev nBuf : Space → Nat
  | .hbm => 79
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S2048x128, .f32⟩
  | .hbm, ⟨3, _⟩ => ⟨S2048x16, .f32⟩
  | .hbm, ⟨4, _⟩ => ⟨S2048x32, .f32⟩
  | .hbm, ⟨5, _⟩ => ⟨S2048x32, .f32⟩
  | .hbm, ⟨6, _⟩ => ⟨S1x2048x2048, .f32⟩
  | .hbm, ⟨7, _⟩ => ⟨S1x2048x16x128, .f32⟩
  | .hbm, ⟨8, _⟩ => ⟨S1x2048x128, .f32⟩
  | .hbm, ⟨9, _⟩ => ⟨S1x2048x16x64, .f32⟩
  | .hbm, ⟨10, _⟩ => ⟨S1x2048x16x64, .f32⟩
  | .hbm, ⟨11, _⟩ => ⟨S1x2048x1x32, .f32⟩
  | .hbm, ⟨12, _⟩ => ⟨S1x2048x1x32, .f32⟩
  | .hbm, ⟨13, _⟩ => ⟨S1x2048x16x32, .f32⟩
  | .hbm, ⟨14, _⟩ => ⟨S1x2048x16x32, .f32⟩
  | .hbm, ⟨15, _⟩ => ⟨S1x2048x16x32, .f32⟩
  | .hbm, ⟨16, _⟩ => ⟨S1x2048x16x32, .f32⟩
  | .hbm, ⟨17, _⟩ => ⟨S1x2048x16x32, .f32⟩
  | .hbm, ⟨18, _⟩ => ⟨S1x2048x16x32, .f32⟩
  | .hbm, ⟨19, _⟩ => ⟨S1x2048x16x32, .f32⟩
  | .hbm, ⟨20, _⟩ => ⟨S1x2048x16x32, .f32⟩
  | .hbm, ⟨21, _⟩ => ⟨S1x2048x16x32, .f32⟩
  | .hbm, ⟨22, _⟩ => ⟨S1x2048x16x32, .f32⟩
  | .hbm, ⟨23, _⟩ => ⟨S1x2048x16x32, .f32⟩
  | .hbm, ⟨24, _⟩ => ⟨S1x2048x16x32, .f32⟩
  | .hbm, ⟨25, _⟩ => ⟨S1x2048x16x32x1, .f32⟩
  | .hbm, ⟨26, _⟩ => ⟨S1x2048x16x32x1, .f32⟩
  | .hbm, ⟨27, _⟩ => ⟨S1x2048x16x32x2, .f32⟩
  | .hbm, ⟨28, _⟩ => ⟨S1x2048x16x64, .f32⟩
  | .hbm, ⟨29, _⟩ => ⟨S1x2048x16x128, .f32⟩
  | .hbm, ⟨30, _⟩ => ⟨S1x2048x64, .f32⟩
  | .hbm, ⟨31, _⟩ => ⟨S1x2048x64, .f32⟩
  | .hbm, ⟨32, _⟩ => ⟨S1x2048x32, .f32⟩
  | .hbm, ⟨33, _⟩ => ⟨S1x2048x32, .f32⟩
  | .hbm, ⟨34, _⟩ => ⟨S1x2048x32, .f32⟩
  | .hbm, ⟨35, _⟩ => ⟨S1x2048x32, .f32⟩
  | .hbm, ⟨36, _⟩ => ⟨S1x2048x32, .f32⟩
  | .hbm, ⟨37, _⟩ => ⟨S1x2048x32, .f32⟩
  | .hbm, ⟨38, _⟩ => ⟨S1x2048x32, .f32⟩
  | .hbm, ⟨39, _⟩ => ⟨S1x2048x32, .f32⟩
  | .hbm, ⟨40, _⟩ => ⟨S1x2048x32, .f32⟩
  | .hbm, ⟨41, _⟩ => ⟨S1x2048x32, .f32⟩
  | .hbm, ⟨42, _⟩ => ⟨S1x2048x32x1, .f32⟩
  | .hbm, ⟨43, _⟩ => ⟨S1x2048x32x1, .f32⟩
  | .hbm, ⟨44, _⟩ => ⟨S1x2048x32x2, .f32⟩
  | .hbm, ⟨45, _⟩ => ⟨S1x2048x64, .f32⟩
  | .hbm, ⟨46, _⟩ => ⟨S1x2048x128, .f32⟩
  | .hbm, ⟨47, _⟩ => ⟨S1x2048x16, .f32⟩
  | .hbm, ⟨48, _⟩ => ⟨S_, .f32⟩
  | .hbm, ⟨49, _⟩ => ⟨S1x2048x16, .f32⟩
  | .hbm, ⟨50, _⟩ => ⟨S1x2048x16, .f32⟩
  | .hbm, ⟨51, _⟩ => ⟨S1x2048x16x2048, .f32⟩
  | .hbm, ⟨52, _⟩ => ⟨S_, .f32⟩
  | .hbm, ⟨53, _⟩ => ⟨S1x2048x16x2048, .f32⟩
  | .hbm, ⟨54, _⟩ => ⟨S1x2048x16x2048, .f32⟩
  | .hbm, ⟨55, _⟩ => ⟨S_, .f32⟩
  | .hbm, ⟨56, _⟩ => ⟨S1x2048x16x2048, .f32⟩
  | .hbm, ⟨57, _⟩ => ⟨S1x2048x16x2048, .f32⟩
  | .hbm, ⟨58, _⟩ => ⟨S1x2048x2048, .f32⟩
  | .hbm, ⟨59, _⟩ => ⟨S_, .i1⟩
  | .hbm, ⟨60, _⟩ => ⟨S2048x2048, .i1⟩
  | .hbm, ⟨61, _⟩ => ⟨S2048x2048, .i32⟩
  | .hbm, ⟨62, _⟩ => ⟨S_, .i32⟩
  | .hbm, ⟨63, _⟩ => ⟨S2048x2048, .i32⟩
  | .hbm, ⟨64, _⟩ => ⟨S2048x2048, .i32⟩
  | .hbm, ⟨65, _⟩ => ⟨S2048x2048, .i32⟩
  | .hbm, ⟨66, _⟩ => ⟨S2048x2048, .i1⟩
  | .hbm, ⟨67, _⟩ => ⟨S_, .i1⟩
  | .hbm, ⟨68, _⟩ => ⟨S2048x2048, .i1⟩
  | .hbm, ⟨69, _⟩ => ⟨S2048x2048, .i1⟩
  | .hbm, ⟨70, _⟩ => ⟨S1x2048x2048, .i1⟩
  | .hbm, ⟨71, _⟩ => ⟨S_, .f32⟩
  | .hbm, ⟨72, _⟩ => ⟨S_, .f32⟩
  | .hbm, ⟨73, _⟩ => ⟨S1x2048x2048, .f32⟩
  | .hbm, ⟨74, _⟩ => ⟨S1x2048x2048, .f32⟩
  | .hbm, ⟨75, _⟩ => ⟨S1x2048x512, .f32⟩
  | .hbm, ⟨76, _⟩ => ⟨S1x2048x512, .i32⟩
  | .hbm, ⟨77, _⟩ => ⟨S2048x512, .f32⟩
  | .hbm, ⟨78, _⟩ => ⟨S2048x512, .i32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_cst : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_cst_0 : Ref sig .tc := ⟨.hbm, 52, rfl⟩
abbrev main_v45 : Ref sig .tc := ⟨.hbm, 53, rfl⟩
abbrev main_v46 : Ref sig .tc := ⟨.hbm, 54, rfl⟩
abbrev main_call0_cst : Ref sig .tc := ⟨.hbm, 55, rfl⟩
abbrev main_call0_v0 : Ref sig .tc := ⟨.hbm, 56, rfl⟩
abbrev main_v47 : Ref sig .tc := ⟨.hbm, 57, rfl⟩
abbrev main_v48 : Ref sig .tc := ⟨.hbm, 58, rfl⟩
abbrev main_c : Ref sig .tc := ⟨.hbm, 59, rfl⟩
abbrev main_v49 : Ref sig .tc := ⟨.hbm, 60, rfl⟩
abbrev main_call1_v0 : Ref sig .tc := ⟨.hbm, 61, rfl⟩
abbrev main_call1_c : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_c_0 : Ref sig .tc := ⟨.hbm, 67, rfl⟩
abbrev main_call1_v5 : Ref sig .tc := ⟨.hbm, 68, rfl⟩
abbrev main_v50 : Ref sig .tc := ⟨.hbm, 69, rfl⟩
abbrev main_v51 : Ref sig .tc := ⟨.hbm, 70, rfl⟩
abbrev main_cst_1 : Ref sig .tc := ⟨.hbm, 71, rfl⟩
abbrev main_call2_v0 : Ref sig .tc := ⟨.hbm, 72, rfl⟩
abbrev main_call2_v1 : Ref sig .tc := ⟨.hbm, 73, rfl⟩
abbrev main_v52 : Ref sig .tc := ⟨.hbm, 74, rfl⟩
abbrev main_values : Ref sig .tc := ⟨.hbm, 75, rfl⟩
abbrev main_indices : Ref sig .tc := ⟨.hbm, 76, rfl⟩
abbrev main_v53 : Ref sig .tc := ⟨.hbm, 77, rfl⟩
abbrev main_v54 : Ref sig .tc := ⟨.hbm, 78, rfl⟩

abbrev nD : Nat := 1
abbrev τ : Topo := Topo.v7x

variable {F : FTy → Type} [FloatOps F]
-- ==== Proof.Projections.lean ====
/-
  THE PROJECTIONS, as both programs compute them on the host: the rotated queries, the rotated key and the head weights, each a
  function of the arguments alone.

-/
module

public import proofs.«01_k».proof.Proof.Gen.ReferenceIdeal.Run
public import Idealize.ShloMosaic.Lib.Pointwise

@[expose] public section

set_option maxRecDepth 16384

noncomputable section

namespace Cert.ReferenceIdeal.Row

open Cert.ReferenceIdeal Cert.ReferenceIdeal.Gen Idealize.ShloMosaic Idealize.ShloMosaic.TcCoe Idealize.SL.Sem

/-- The query projection, split into its heads. -/
def heads (h : FVec Ideal S1x2048x2048 .f32) (wq : FVec Ideal S2048x2048 .f32) : FVec Ideal S1x2048x16x128 .f32 :=
  shapeCast _ (Host.dotGeneral (F := Ideal) dot_S1x2048x2048_S2048x2048_S1x2048x2048_2_0_01_1_n_n none h wq) shapeCasts_S1x2048x2048_S1x2048x16x128

/-- The last 64 places of every head. -/
def tailQ (q : FVec Ideal S1x2048x16x128 .f32) : FVec Ideal S1x2048x16x64 .f32 :=
  extractStridedSlice S1x2048x16x64 ![0, 0, 0, 64] q slices_S1x2048x16x128_S1x2048x16x64_0_0_0_64

/-- Their even places. -/
def evenQ (q : FVec Ideal S1x2048x16x128 .f32) : FVec Ideal S1x2048x16x32 .f32 :=
  Host.slice S1x2048x16x32 ![0, 0, 0, 0] ![1, 1, 1, 2] (tailQ q) slicesBy_S1x2048x16x64_S1x2048x16x32_0s1_0s1_0s1_0s2

/-- Their odd places. -/
def oddQ (q : FVec Ideal S1x2048x16x128 .f32) : FVec Ideal S1x2048x16x32 .f32 :=
  Host.slice S1x2048x16x32 ![0, 0, 0, 1] ![1, 1, 1, 2] (tailQ q) slicesBy_S1x2048x16x64_S1x2048x16x32_0s1_0s1_0s1_1s2

/-- A table of angles, repeated over the heads. -/
def tableQ (t : FVec Ideal S2048x32 .f32) : FVec Ideal S1x2048x16x32 .f32 :=
  broadcastInDim S1x2048x16x32 ![0, 1, 2, 3] bcast_S1x2048x1x32_S1x2048x16x32_0_1_2_3 (broadcastInDim S1x2048x1x32 ![1, 3] bcast_S2048x32_S1x2048x1x32_1_3 t)

/-- A column of pairs. -/
def columnQ (x : FVec Ideal S1x2048x16x32 .f32) : FVec Ideal S1x2048x16x32x1 .f32 :=
  broadcastInDim S1x2048x16x32x1 ![0, 1, 2, 3] bcast_S1x2048x16x32_S1x2048x16x32x1_0_1_2_3 x

/-- Heads whose last 64 places are rotated pair by pair. -/
def rotateQ (q : FVec Ideal S1x2048x16x128 .f32) (cos sin : FVec Ideal S2048x32 .f32) : FVec Ideal S1x2048x16x128 .f32 :=
  concatenate S1x2048x16x128 3
    [⟨S1x2048x16x64, extractStridedSlice S1x2048x16x64 ![0, 0, 0, 0] q slices_S1x2048x16x128_S1x2048x16x64_0_0_0_0⟩,
     ⟨S1x2048x16x64, shapeCast _ (concatenate S1x2048x16x32x2 4
        [⟨S1x2048x16x32x1, columnQ (subf (mulf (evenQ q) (tableQ cos)) (mulf (oddQ q) (tableQ sin)))⟩,
         ⟨S1x2048x16x32x1, columnQ (addf (mulf (evenQ q) (tableQ sin)) (mulf (oddQ q) (tableQ cos)))⟩]
        concatenates_S1x2048x16x32x1_S1x2048x16x32x1_S1x2048x16x32x2_d4) shapeCasts_S1x2048x16x32x2_S1x2048x16x64⟩]
    concatenates_S1x2048x16x64_S1x2048x16x64_S1x2048x16x128_d3

/-- The rotated queries. -/
def queries (h : FVec Ideal S1x2048x2048 .f32) (wq : FVec Ideal S2048x2048 .f32) (cos sin : FVec Ideal S2048x32 .f32) :
    FVec Ideal S1x2048x16x128 .f32 := rotateQ (heads h wq) cos sin

/-- The even places of the key's last 64. -/
def evenK (k : FVec Ideal S1x2048x128 .f32) : FVec Ideal S1x2048x32 .f32 :=
  Host.slice S1x2048x32 ![0, 0, 0] ![1, 1, 2] (extractStridedSlice S1x2048x64 ![0, 0, 64] k slices_S1x2048x128_S1x2048x64_0_0_64)
    slicesBy_S1x2048x64_S1x2048x32_0s1_0s1_0s2

/-- The odd places of the key's last 64. -/
def oddK (k : FVec Ideal S1x2048x128 .f32) : FVec Ideal S1x2048x32 .f32 :=
  Host.slice S1x2048x32 ![0, 0, 1] ![1, 1, 2] (extractStridedSlice S1x2048x64 ![0, 0, 64] k slices_S1x2048x128_S1x2048x64_0_0_64)
    slicesBy_S1x2048x64_S1x2048x32_0s1_0s1_1s2

/-- A table of angles for the key. -/
def tableK (t : FVec Ideal S2048x32 .f32) : FVec Ideal S1x2048x32 .f32 :=
  broadcastInDim S1x2048x32 ![1, 2] bcast_S2048x32_S1x2048x32_1_2 t

/-- A column of pairs of the key. -/
def columnK (x : FVec Ideal S1x2048x32 .f32) : FVec Ideal S1x2048x32x1 .f32 :=
  broadcastInDim S1x2048x32x1 ![0, 1, 2] bcast_S1x2048x32_S1x2048x32x1_0_1_2 x

/-- A key whose last 64 places are rotated pair by pair. -/
def rotateK (k : FVec Ideal S1x2048x128 .f32) (cos sin : FVec Ideal S2048x32 .f32) : FVec Ideal S1x2048x128 .f32 :=
  concatenate S1x2048x128 2
    [⟨S1x2048x64, extractStridedSlice S1x2048x64 ![0, 0, 0] k slices_S1x2048x128_S1x2048x64_0_0_0⟩,
     ⟨S1x2048x64, shapeCast _ (concatenate S1x2048x32x2 3
        [⟨S1x2048x32x1, columnK (subf (mulf (evenK k) (tableK cos)) (mulf (oddK k) (tableK sin)))⟩,
         ⟨S1x2048x32x1, columnK (addf (mulf (evenK k) (tableK sin)) (mulf (oddK k) (tableK cos)))⟩]
        concatenates_S1x2048x32x1_S1x2048x32x1_S1x2048x32x2_d3) shapeCasts_S1x2048x32x2_S1x2048x64⟩]
    concatenates_S1x2048x64_S1x2048x64_S1x2048x128_d2

/-- The rotated key. -/
def keys (h : FVec Ideal S1x2048x2048 .f32) (wk : FVec Ideal S2048x128 .f32) (cos sin : FVec Ideal S2048x32 .f32) :
    FVec Ideal S1x2048x128 .f32 :=
  rotateK (Host.dotGeneral (F := Ideal) dot_S1x2048x2048_S2048x128_S1x2048x128_2_0_01_1_n_n none h wk) cos sin

/-- The head weights. -/
def weights (h : FVec Ideal S1x2048x2048 .f32) (wp : FVec Ideal S2048x16 .f32) : FVec Ideal S1x2048x16 .f32 :=
  mulf (Host.dotGeneral (F := Ideal) dot_S1x2048x2048_S2048x16_S1x2048x16_2_0_01_1_n_n none h wp)
    (broadcastInDim S1x2048x16 ![] bcast_S_S1x2048x16 (constant S_ .f32 0x3E800000#32))

end Cert.ReferenceIdeal.Row
-- ==== Proof.Block.lean ====
module

public import proofs.«01_k».proof.Proof.Gen.KernelIdeal.Value
public import Idealize.ShloMosaic.Lib.WholeRead
public import Idealize.ShloMosaic.Lib.Pipeline.ValueKit
public import Idealize.ShloMosaic.Lib.ValueIdxCoords

@[expose] public section

set_option maxRecDepth 16384

noncomputable section

/-!
One grid point of the kernel as plain terms of its five input blocks: the scores of 256 query rows against all
2048 keys, 66 compare-and-swap trips over them, and the first 512 columns of what is left.
-/

namespace Cert.KernelIdeal.Row

open Cert.KernelIdeal Cert.KernelIdeal.Gen Idealize.ShloMosaic Idealize.ShloMosaic.TcCoe Idealize.SL.Sem

/-- The state of the sorting loop: the scores and the column numbers of 256 rows. -/
abbrev State := FVec Ideal S256x2048 .f32 × IVec S256x2048 32

/-- One trip of the sorting loop with the distance word `j` and the level word `k`. -/
def swap (j k : BitVec 32) (p : State) : State := (k0_pay17 p.1 p.2 j k, k0_pay18 p.1 p.2 j k)

/-- The loop's state after `n` trips, from the level words `ks` and the distance words `js`. -/
def steps (ks js : Vec Ideal S66 .i32) (init : State) : Nat → State
  | 0 => init
  | n + 1 => if h : n < 66 then swap (js (ix1 ⟨n, h⟩)) (ks (ix1 ⟨n, h⟩)) (steps ks js init n) else steps ks js init n

/-- The masked scores of one block: the sixteen heads' terms added up in turn, then the causal fill. -/
def blockScores (b : BitVec 32) (x2 : Vec Ideal S256x2048 .bf16) (x3 : Vec Ideal S256x16 .bf16) (x4 : Vec Ideal S2048x128 .bf16) :
    FVec Ideal S256x2048 .f32 :=
  let v1 := k0_pay1 x2
  let v4 := k0_pay2 x3
  let v6 := k0_pay3 x4
  k0_pay12 b v1 v4 v6
    (k0_pay10 v1 v4 v6 (k0_pay8 v1 v4 v6 (k0_pay6 v1 v4 v6 (k0_pay4 x2 x3 x4) (k0_pay5 x2 x3 x4)) (k0_pay7 v1 v4 v6)) (k0_pay9 v1 v4 v6))
    (k0_pay11 v1 v4 v6)

/-- The column numbers the loop starts from. -/
def blockCols : IVec S256x2048 32 := iota .tc S256x2048 32 [1] iota_S256x2048_d1_w32

/-- The loop makes 66 trips. -/
theorem trips_eq : k0_t1_loop.trips = 66 := by decide +kernel

section
variable (c : Dev nD) (i : grid0.Coords) (arg1 : Memref sig .tc .smem S66 .i32) (harg1 : arg1.IsWhole) (arg2 : Memref sig .tc .smem S66 .i32) (harg2 : arg2.IsWhole) (arg3 : Memref sig .tc .vmem S256x2048 .bf16) (harg3 : arg3.IsWhole) (arg4 : Memref sig .tc .vmem S256x16 .bf16) (harg4 : arg4.IsWhole) (arg5 : Memref sig .tc .vmem S2048x128 .bf16) (harg5 : arg5.IsWhole) (arg6 : Memref sig .tc .vmem S256x512 .f32) (harg6 : arg6.IsWhole) (arg7 : Memref sig .tc .vmem S256x512 .i32) (harg7 : arg7.IsWhole)
    (x0 : Vec Ideal S66 .i32) (x1 : Vec Ideal S66 .i32)

/-- The word a trip loads from a table lies at the trip's own number. -/
theorem word_idx (k : Fin k0_t1_loop.trips) (x : S1.Idx) :
    (Rect.unit (s := S66) (k0_off1 k) S1.size (k0_off1_inb k)).toLoadRect.idx x = ix1 ⟨k.val, trips_eq ▸ k.isLt⟩ := by
  funext a
  apply Fin.ext
  fin_cases a
  have hx : (x 0).val = 0 := Nat.lt_one_iff.mp (x 0).isLt
  show k0_off1 k 0 + 1 * (x 0).val = k.val
  rw [hx, k0_off1_eq k]
  simp

/-- One trip is one compare-and-swap with the trip's own two table words. -/
theorem trip_eq (k : Fin k0_t1_loop.trips) (acc : State) :
    tripR_k0_t1 (F := Ideal) Variants.none c none i arg1 harg1 arg2 harg2 arg3 harg3 arg4 harg4 arg5 harg5 arg6 harg6 arg7 harg7 (harg1.unread x0) (harg2.unread x1) k acc
      = swap (x1 (ix1 ⟨k.val, trips_eq ▸ k.isLt⟩)) (x0 (ix1 ⟨k.val, trips_eq ▸ k.isLt⟩)) acc := by
  unfold tripR_k0_t1 trip_k0_t1
  dsimp only
  unfold trip_k0_t1.sl.r trip_k0_t1.sl.r_1
  rw [harg1.readAt_unread, harg2.readAt_unread, word_idx]
  rfl

/-- The generated recursion over the trips is `steps`. -/
theorem st_eq (init : State) (n : Nat) (hn : n ≤ 66) :
    st_k0_t1 (F := Ideal) Variants.none c none i arg1 harg1 arg2 harg2 arg3 harg3 arg4 harg4 arg5 harg5 arg6 harg6 arg7 harg7 (harg1.unread x0) (harg2.unread x1) init n = steps x0 x1 init n := by
  induction n with
  | zero => rfl
  | succ n ih =>
    have h : n < k0_t1_loop.trips := by rw [trips_eq]; omega
    rw [st_k0_t1_succ (k := ⟨n, h⟩), trip_eq, ih (by omega), steps, dif_pos (show n < 66 by omega)]

variable (x2 : Vec Ideal S256x2048 .bf16) (x3 : Vec Ideal S256x16 .bf16) (x4 : Vec Ideal S2048x128 .bf16)

/-- The block of greatest scores one grid point writes. -/
theorem out5_eq :
    out0_A_5 c i arg1 harg1 arg2 harg2 arg3 harg3 arg4 harg4 arg5 harg5 arg6 harg6 arg7 harg7 x0 x1 x2 x3 x4
      = k0_pay20 (F := Ideal) (steps x0 x1 (blockScores (BitVec.ofNat 32 (i 0).val) x2 x3 x4, blockCols) 66).1 := by
  frame_out
  rw [show Scf.trips (0#32) (Scalar.addi 0#32 66#32) 1#32 = 66 from trips_eq]
  exact congrArg (fun p : State => k0_pay20 (F := Ideal) p.1) (st_eq (c := c) (i := i) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (x0 := x0) (x1 := x1)
    (blockScores (BitVec.ofNat 32 (i 0).val) x2 x3 x4, blockCols) 66 (Nat.le_refl _))

/-- The block of their column numbers. -/
theorem out6_eq :
    out0_A_6 c i arg1 harg1 arg2 harg2 arg3 harg3 arg4 harg4 arg5 harg5 arg6 harg6 arg7 harg7 x0 x1 x2 x3 x4
      = k0_pay19 (steps x0 x1 (blockScores (BitVec.ofNat 32 (i 0).val) x2 x3 x4, blockCols) 66).2 := by
  frame_out
  rw [show Scf.trips (0#32) (Scalar.addi 0#32 66#32) 1#32 = 66 from trips_eq]
  exact congrArg (fun p : State => k0_pay19 p.2) (st_eq (c := c) (i := i) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (x0 := x0) (x1 := x1)
    (blockScores (BitVec.ofNat 32 (i 0).val) x2 x3 x4, blockCols) 66 (Nat.le_refl _))

end

end Cert.KernelIdeal.Row
-- ==== Proof.RowSort.lean ====
/-
  ONE ROW, SORTED TWO WAYS. The kernel orders a row of scores by a bitonic network on the pairs (score, column), a greater score first and,
  among equal scores, a smaller column first. The reference takes the stable descending sort of the scores alone. Here the two are shown to
  put the same column at every place: the pairs are a linear order, so the network's outcome is THE descending arrangement of them, and a
  stable sort that only compares scores breaks its ties by the column.
-/
module

public import Idealize.ShloMosaic.Lib.SortNet.Sorts
public import Idealize.ShloMosaic.Lib.SortPrefix
public import Mathlib.Data.Prod.Lex
public import Mathlib.Data.EReal.Basic

@[expose] public section

noncomputable section

namespace Cert.RowSort

open Idealize.ShloMosaic Idealize.ShloMosaic.SortNet

/-- A sort compares an element only with later ones of its list, the later one first: two comparators that agree there sort alike. -/
theorem stableSort_congr_later {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- The same of the sorting permutation of `n` positions: the comparators need only agree on (later, earlier). -/
theorem sortedFrom_congr_later {n : Nat} (R R' : Fin n → Fin n → Bool) (h : ∀ a b, a < b → R b a = R' b a) :
    sortedFrom R = sortedFrom R' := by
  have e : sortPositions n R = sortPositions n R' :=
    stableSort_congr_later R R' _ ((List.pairwise_lt_finRange n).imp fun {a b} hab => h a b hab)
  funext k
  unfold sortedFrom
  rw [List.get_of_eq e]
  rfl

/-- The entry of a network at one column: the score, then the column, smaller columns being greater. -/
abbrev Entry (n : Nat) : Type := EReal ×ₗ (Fin n)ᵒᵈ

/-- The entry with score `x` and column `i`. -/
def entry {n : Nat} (x : EReal) (i : Fin n) : Entry n := toLex (x, OrderDual.toDual i)

/-- An entry's score. -/
def Entry.score {n : Nat} (e : Entry n) : EReal := (ofLex e).1

/-- An entry's column. -/
def Entry.col {n : Nat} (e : Entry n) : Fin n := OrderDual.ofDual (ofLex e).2

/-- One entry is below another exactly when its score is smaller, or equal with a greater column. -/
theorem Entry.lt_iff {n : Nat} (a b : Entry n) : a < b ↔ a.score < b.score ∨ (a.score = b.score ∧ b.col < a.col) :=
  Prod.Lex.lt_iff

/-- "Sorts before": the greater score, ties by the smaller column. -/
def before {n : Nat} (x : Fin n → EReal) (k k' : Fin n) : Bool :=
  decide (x k' < x k) || (decide (x k = x k') && decide (k < k'))

theorem before_iff {n : Nat} (x : Fin n → EReal) (k k' : Fin n) :
    before x k k' = true ↔ entry (x k') k' < entry (x k) k := by
  rw [Entry.lt_iff]
  unfold before
  simp only [Bool.or_eq_true, Bool.and_eq_true, decide_eq_true_eq]
  exact or_congr Iff.rfl (and_congr eq_comm Iff.rfl)

theorem before_strict {n : Nat} (x : Fin n → EReal) : StrictTotalBefore (before x) :=
  StrictTotalBefore.of_key_then_position (fun a b => decide (b < a)) x (fun a => by simp)
    (fun a b c hab hbc => by simp only [decide_eq_true_eq] at *; exact lt_trans hbc hab)
    (fun a b => by simp only [decide_eq_true_eq]; rcases lt_trichotomy a b with h | h | h <;> tauto)

/-- The stable sort by the scores alone is the sort by score then column. -/
theorem sortedFrom_scores {n : Nat} (x : Fin n → EReal) :
    sortedFrom (fun k k' => decide (x k' < x k)) = sortedFrom (before x) :=
  sortedFrom_congr_later _ _ fun a b hab => by
    unfold before
    have : ¬ b < a := not_lt.mpr (le_of_lt hab)
    simp [this]

/-- Any arrangement of a row's entries in descending order has, at each place, the entry of the column the stable sort of the scores
    puts there. -/
theorem eq_of_descending {n : Nat} (x : Fin n → EReal) (w : Fin n → Entry n) (hw : Antitone w)
    (σ : Equiv.Perm (Fin n)) (hσ : w = (fun i => entry (x i) i) ∘ σ) (i : Fin n) :
    w i = entry (x (sortedFrom (fun k k' => decide (x k' < x k)) i)) (sortedFrom (fun k k' => decide (x k' < x k)) i) := by
  have h : sortedFrom (before x) i = σ i :=
    (before_strict x).sortedFrom_eq_of_prefix le_rfl σ σ.injective
      (fun a b hab => by
        rw [Bool.eq_false_iff, Ne, before_iff, not_lt]
        have := hw hab.le
        rw [hσ] at this
        exact this)
      (fun a p hp => absurd (σ.apply_symm_apply p) (hp _)) i
  rw [sortedFrom_scores, h, hσ]
  rfl

/-- THE NETWORK'S OUTCOME: the bitonic sort of a row's entries leaves at each place the entry of the column that the stable descending
    sort of the scores puts there. -/
theorem sortNet_entries {p : Nat} (x : Fin (2 ^ p) → EReal) (i : Fin (2 ^ p)) :
    Network.apply (sortNet p true) (fun i => entry (x i) i) i
      = entry (x (sortedFrom (fun k k' => decide (x k' < x k)) i)) (sortedFrom (fun k k' => decide (x k' < x k)) i) := by
  obtain ⟨σ, hσ⟩ := Network.exists_perm (sortNet p true) (fun i => entry (x i) i)
  exact eq_of_descending x _ (sortNet_apply_antitone p _) σ hσ i

/-! ## The network as a list of exchanges of whole rows -/

/-- Whether the position keeps the greater entry: its bit `s` is clear exactly when it is in a descending block. -/
def keep (p l s : Nat) (i : Fin (2 ^ p)) : Bool :=
  decide (i.val &&& 2 ^ s = 0) == decide (i.val &&& 2 ^ (l + 1) = 0)

/-- One exchange of the whole row: each position takes its partner's entry when "the partner's entry is the greater" agrees with its
    keeping the greater. -/
def exchange {n : Nat} (p l s : Nat) (v : Fin (2 ^ p) → Entry n) (i : Fin (2 ^ p)) : Entry n :=
  if (keep p l s i == decide (v i < v (partner p s i))) = true then v (partner p s i) else v i

theorem testBit_partner {p s t : Nat} (hs : s < p) (i : Fin (2 ^ p)) (hst : s ≠ t) :
    ((partner p s i).val &&& 2 ^ t = 0) ↔ (i.val &&& 2 ^ t = 0) := by
  rw [and_two_pow_eq_zero_iff_testBit, and_two_pow_eq_zero_iff_testBit, partner_val hs, Nat.testBit_xor, Nat.testBit_two_pow]
  simp [hst]

theorem keep_partner {p l s : Nat} (hs : s < p) (hsl : s ≤ l) (i : Fin (2 ^ p)) : keep p l s (partner p s i) = !keep p l s i := by
  unfold keep
  have h1 : decide ((partner p s i).val &&& 2 ^ (l + 1) = 0) = decide (i.val &&& 2 ^ (l + 1) = 0) :=
    decide_eq_decide.mpr (testBit_partner hs i (by omega))
  have h2 : decide ((partner p s i).val &&& 2 ^ s = 0) = !decide (i.val &&& 2 ^ s = 0) := by
    by_cases h : i.val &&& 2 ^ s = 0
    · rw [partner_and hs i h]
      have : (2 : Nat) ^ s ≠ 0 := Nat.pos_iff_ne_zero.mp (Nat.two_pow_pos s)
      simp [h, this]
    · rw [partner_and_of_set hs i h]
      simp [h]
  rw [h1, h2]
  generalize decide (i.val &&& 2 ^ s = 0) = a
  generalize decide (i.val &&& 2 ^ (l + 1) = 0) = b
  revert a b
  decide

/-- The network's stage is the exchange of the whole row. -/
theorem apply_stage_eq {n p l s : Nat} (hs : s < p) (hsl : s ≤ l) (v : Fin (2 ^ p) → Entry n) :
    Network.apply (stage p s fun i => (decide (i.val &&& 2 ^ (l + 1) = 0)) == true) v = exchange p l s v := by
  have e : (stage p s fun i => (decide (i.val &&& 2 ^ (l + 1) = 0)) == true) = stage p s (keep p l s) :=
    stage_congr fun i hi => by unfold keep; rw [hi]; simp
  funext j
  rw [e, apply_stage_select hs _ (keep_partner hs hsl)]
  unfold exchange
  rcases lt_trichotomy (v j) (v (partner p s j)) with h | h | h
  · have h' : ¬ v (partner p s j) < v j := not_lt.mpr h.le
    simp only [h, h', decide_true, decide_false]
    cases keep p l s j <;> rfl
  · rw [← h]; simp
  · have h' : ¬ v j < v (partner p s j) := not_lt.mpr h.le
    simp only [h, h', decide_true, decide_false]
    cases keep p l s j <;> rfl

/-- The network's stages in order: the level, then the distance's exponent. -/
def stages (p : Nat) : List (Nat × Nat) := (List.range p).flatMap fun l => (List.range (l + 1)).reverse.map fun s => (l, s)

theorem mem_stages {p : Nat} {ls : Nat × Nat} (h : ls ∈ stages p) : ls.2 < p ∧ ls.2 ≤ ls.1 := by
  unfold stages at h
  simp only [List.mem_flatMap, List.mem_map, List.mem_reverse, List.mem_range] at h
  obtain ⟨l, hl, s, hs, rfl⟩ := h
  dsimp only
  omega

/-- Running the exchanges in the order of `stages` is running the network. -/
theorem foldl_exchange {n p : Nat} (v : Fin (2 ^ p) → Entry n) :
    (stages p).foldl (fun v ls => exchange p ls.1 ls.2 v) v = Network.apply (sortNet p true) v := by
  have e : sortNet p true
      = (stages p).flatMap fun ls => stage p ls.2 fun i => (decide (i.val &&& 2 ^ (ls.1 + 1) = 0)) == true := by
    unfold sortNet stages
    rw [List.flatMap_assoc]
    simp only [List.flatMap_map]
  rw [e]
  have key : ∀ (L : List (Nat × Nat)), (∀ ls ∈ L, ls.2 < p ∧ ls.2 ≤ ls.1) → ∀ v : Fin (2 ^ p) → Entry n,
      L.foldl (fun v ls => exchange p ls.1 ls.2 v) v
        = Network.apply (L.flatMap fun ls => stage p ls.2 fun i => (decide (i.val &&& 2 ^ (ls.1 + 1) = 0)) == true) v := by
    intro L
    induction L with
    | nil => intro _ v; rfl
    | cons ls L ih =>
      intro hL v
      have h0 := hL ls List.mem_cons_self
      rw [List.foldl_cons, List.flatMap_cons, Network.apply_append, apply_stage_eq h0.1 h0.2,
        ih fun ls' h => hL ls' (List.mem_cons_of_mem ls h)]
  exact key _ (fun _ h => mem_stages h) v

/-- So a run of the exchanges, one after another, ends at the entries of the columns in the stable descending sort of the scores. -/
theorem run_exchanges {p : Nat} (x : Fin (2 ^ p) → EReal) (N : Nat) (hN : (stages p).length = N)
    (P : Nat → Fin (2 ^ p) → Entry (2 ^ p)) (h0 : P 0 = fun i => entry (x i) i)
    (hs : ∀ k (hk : k < (stages p).length), P (k + 1) = exchange p (stages p)[k].1 (stages p)[k].2 (P k)) (i : Fin (2 ^ p)) :
    P N i = entry (x (sortedFrom (fun k k' => decide (x k' < x k)) i)) (sortedFrom (fun k k' => decide (x k' < x k)) i) := by
  have key : ∀ k, k ≤ (stages p).length → P k = ((stages p).take k).foldl (fun v ls => exchange p ls.1 ls.2 v) (P 0) := by
    intro k
    induction k with
    | zero => intro _; rfl
    | succ k ih =>
      intro hk
      rw [hs k hk, ih (by omega), List.take_succ_eq_append_getElem hk, List.foldl_append]
      rfl
  rw [← hN, key _ le_rfl, List.take_length, foldl_exchange, h0, sortNet_entries]

end Cert.RowSort
-- ==== Proof.Stage.lean ====
/-
  THE SORTING LOOP ON ONE ROW. One trip of the loop, read on one row of the block, is one exchange of the row's entries (RowSort), a
  position holding the score of its entry in one array and the entry's column in the other. The 66 trips therefore leave, at each place,
  the score and the column that the stable descending sort of the row puts there.
-/
module

public import proofs.«01_k».proof.Proof.Block
public import proofs.«01_k».proof.Proof.RowSort
public import Idealize.ShloMosaic.Lib.SortNet.Printed

@[expose] public section

set_option maxRecDepth 16384

noncomputable section

namespace Cert.KernelIdeal.Row

open Cert.KernelIdeal Cert.KernelIdeal.Gen Cert.RowSort Idealize.ShloMosaic
open Idealize.ShloMosaic.SortNet (Column partner select_ofBool)

/-- Row `r` of a block as a column of positions: 2048 places along the second axis. -/
def rowCol (r : Fin 256) : Column S256x2048 1 11 where
  col := fun i => ix2 r i
  size_eq := rfl
  coord := fun _ => rfl
  other := fun i i' b hb => by
    fin_cases b
    · rfl
    · exact absurd rfl hb

/-- Row `r` of the state holds the entries `P`. -/
def Holds (p : State) (r : Fin 256) (P : Fin (2 ^ 11) → Entry (2 ^ 11)) : Prop :=
  ∀ i : Fin (2 ^ 11), p.1 ((rowCol r).col i) = (P i).score ∧ p.2 ((rowCol r).col i) = BitVec.ofNat 32 (P i).col.val

/-- Signed comparison of two small column words. -/
theorem slt_cols (a b : Fin (2 ^ 11)) :
    IntOp.cmpi .slt (BitVec.ofNat 32 a.val) (BitVec.ofNat 32 b.val) = BitVec.ofBool (decide (a < b)) := by
  show BitVec.ofBool ((BitVec.ofNat 32 a.val).slt (BitVec.ofNat 32 b.val)) = _
  congr 1
  have ha := a.isLt
  have hb := b.isLt
  rw [BitVec.slt_eq_decide, BitVec.toInt_eq_toNat_of_lt (by rw [BitVec.toNat_ofNat]; omega),
    BitVec.toInt_eq_toNat_of_lt (by rw [BitVec.toNat_ofNat]; omega), BitVec.toNat_ofNat, BitVec.toNat_ofNat,
    Nat.mod_eq_of_lt (by omega), Nat.mod_eq_of_lt (by omega)]
  simp only [Nat.cast_lt, Fin.lt_def]

/-- The word under which a place takes its partner's entry, as the loop computes it from five Booleans. -/
theorem take_word : ∀ a1 a2 a3 a4 a5 : Bool,
    IntOp.xori (IntOp.xori (IntOp.xori (IntOp.xori (BitVec.ofBool a1) (BitVec.ofBool a2)) 1#1)
      (IntOp.ori (BitVec.ofBool a3) (IntOp.andi (BitVec.ofBool a4) (BitVec.ofBool a5)))) 1#1
      = BitVec.ofBool ((a1 == a2) == (a3 || (a4 && a5))) := by decide

section
variable {s l : Nat} (hs : s < 11) {j k : BitVec 32} (hj : j.toNat = 2 ^ s) (hk : k.toNat = 2 ^ (l + 1)) (r : Fin 256) (i : Fin (2 ^ 11))

include hj in
/-- "Bit `s` of the column is clear", as the loop computes it. -/
theorem lower_at : k0_pay13 (F := Ideal) j ((rowCol r).col i) = BitVec.ofBool (decide (i.val &&& 2 ^ s = 0)) := by
  have hi : i.val < 2 ^ 32 := by have := i.isLt; omega
  show BitVec.ofBool (IntOp.andi (iota .tc S256x2048 32 [1] iota_S256x2048_d1_w32 ((rowCol r).col i)) j == 0#32) = _
  rw [(rowCol r).iota_apply]
  congr 1
  rw [Bool.eq_iff_iff, beq_iff_eq, decide_eq_true_eq, SortNet.and_distance_eq_zero_iff hi j hj]

include hs hj in
/-- What the two rotations fetch: the element at the partner place. -/
theorem fetch_at {α : Type} (x : S256x2048.Idx → α) :
    select (k0_pay13 (F := Ideal) j) (dynamicRotate 1 (Scalar.subi 2048#32 j) none x rotates_S256x2048_d1)
      (dynamicRotate 1 j none x rotates_S256x2048_d1) ((rowCol r).col i) = x ((rowCol r).col (partner 11 s i)) := by
  show Scalar.select (k0_pay13 (F := Ideal) j ((rowCol r).col i)) _ _ = _
  rw [lower_at hj, select_ofBool]
  have hle : 2 ^ s ≤ 2 ^ 10 := Nat.pow_le_pow_right (by decide) (by omega)
  by_cases hb : i.val &&& 2 ^ s = 0
  · rw [decide_eq_true hb, if_pos rfl]
    refine (rowCol r).rotate_of_clear hs _ ?_ x _ i hb
    show (2048#32 - j).toNat = _
    rw [BitVec.toNat_sub, hj]
    simp only [BitVec.toNat_ofNat]
    omega
  · rw [decide_eq_false hb, if_neg Bool.false_ne_true]
    exact (rowCol r).rotate_of_set hs j hj x _ i hb

include hs hj hk in
/-- ONE TRIP ON ONE ROW is one exchange of the row's entries. -/
theorem swap_holds (p : State) (P : Fin (2 ^ 11) → Entry (2 ^ 11)) (h : Holds p r P) :
    Holds (swap j k p) r (exchange 11 l s P) := by
  intro i
  obtain ⟨hv, hc⟩ := h i
  obtain ⟨hv', hc'⟩ := h (partner 11 s i)
  have e14 : k0_pay14 p.1 j ((rowCol r).col i) = (P (partner 11 s i)).score := (fetch_at hs hj r i p.1).trans hv'
  have e15 : k0_pay15 (F := Ideal) p.2 j ((rowCol r).col i) = BitVec.ofNat 32 (P (partner 11 s i)).col.val :=
    (fetch_at hs hj r i p.2).trans hc'
  have ekk : cmpi .eq (andi (iota .tc S256x2048 32 [1] iota_S256x2048_d1_w32) (broadcast S256x2048 k)) (broadcast S256x2048 0#32)
      ((rowCol r).col i) = BitVec.ofBool (decide (i.val &&& 2 ^ (l + 1) = 0)) :=
    SortNet.sizeClear_apply (rowCol r) (by decide) _ (fun i => (rowCol r).iota_apply .tc _ i) k hk i
  have e16 : k0_pay16 (F := Ideal) p.1 p.2 j k ((rowCol r).col i)
      = BitVec.ofBool (keep 11 l s i == decide (P i < P (partner 11 s i))) := by
    show IntOp.xori (IntOp.xori (IntOp.xori (IntOp.xori (k0_pay13 (F := Ideal) j ((rowCol r).col i)) (cmpi .eq (andi (iota .tc S256x2048 32 [1] iota_S256x2048_d1_w32) (broadcast S256x2048 k)) (broadcast S256x2048 0#32)
      ((rowCol r).col i))) 1#1) (IntOp.ori (Ideal.cmp .ogt (k0_pay14 p.1 j ((rowCol r).col i)) (p.1 ((rowCol r).col i)))
        (IntOp.andi (Ideal.cmp .oeq (k0_pay14 p.1 j ((rowCol r).col i)) (p.1 ((rowCol r).col i)))
          (IntOp.cmpi .slt (k0_pay15 (F := Ideal) p.2 j ((rowCol r).col i)) (p.2 ((rowCol r).col i)))))) 1#1 = _
    rw [e14, e15, lower_at hj, ekk, hv, hc, slt_cols]
    have e : decide (P i < P (partner 11 s i)) = (decide ((P i).score < (P (partner 11 s i)).score)
        || (decide ((P (partner 11 s i)).score = (P i).score) && decide ((P (partner 11 s i)).col < (P i).col))) := by
      rw [Bool.eq_iff_iff]
      simp only [Bool.or_eq_true, Bool.and_eq_true, decide_eq_true_eq]
      rw [Entry.lt_iff]
      exact or_congr Iff.rfl (and_congr eq_comm Iff.rfl)
    rw [e]
    exact take_word _ _ _ _ _
  constructor
  · show Scalar.select (k0_pay16 (F := Ideal) p.1 p.2 j k ((rowCol r).col i)) (k0_pay14 p.1 j ((rowCol r).col i)) (p.1 ((rowCol r).col i)) = _
    rw [e16, select_ofBool, e14, hv]
    unfold exchange
    split <;> rfl
  · show Scalar.select (k0_pay16 (F := Ideal) p.1 p.2 j k ((rowCol r).col i)) (k0_pay15 (F := Ideal) p.2 j ((rowCol r).col i)) (p.2 ((rowCol r).col i)) = _
    rw [e16, select_ofBool, e15, hc]
    unfold exchange
    split <;> rfl

end

/-- The entries a row holds after `n` trips, from the scores `x`. -/
def rowEntries (x : Fin (2 ^ 11) → EReal) : Nat → Fin (2 ^ 11) → Entry (2 ^ 11)
  | 0 => fun i => entry (x i) i
  | n + 1 => if h : n < (stages 11).length then exchange 11 (stages 11)[n].1 (stages 11)[n].2 (rowEntries x n) else rowEntries x n

/-- There are 66 exchanges. -/
theorem stages_length : (stages 11).length = 66 := by decide +kernel

/-- The two tables hold the level words and the distance words of the network. -/
structure Tables (ks js : Vec Ideal S66 .i32) : Prop where
  level : ∀ n (h : n < 66), BitVec.toNat (ks (ix1 ⟨n, h⟩)) = 2 ^ ((stages 11)[n]'(stages_length ▸ h)).1.succ
  dist : ∀ n (h : n < 66), BitVec.toNat (js (ix1 ⟨n, h⟩)) = 2 ^ ((stages 11)[n]'(stages_length ▸ h)).2

/-- After `n` trips row `r` holds `rowEntries`. -/
theorem steps_holds {ks js : Vec Ideal S66 .i32} (T : Tables ks js) (init : State) (r : Fin 256) (x : Fin (2 ^ 11) → EReal)
    (h : Holds init r fun i => entry (x i) i) (n : Nat) (hn : n ≤ 66) : Holds (steps ks js init n) r (rowEntries x n) := by
  induction n with
  | zero => exact h
  | succ n ih =>
    have hn' : n < 66 := by omega
    have hn'' : n < (stages 11).length := by rw [stages_length]; exact hn'
    rw [steps, dif_pos hn', rowEntries, dif_pos hn'']
    exact swap_holds (mem_stages (List.getElem_mem hn'')).1 (T.dist n hn') (T.level n hn') r _ _ (ih (by omega))

/-- The column the stable descending sort of the scores `x` puts at place `i`. -/
@[irreducible] def sorted (x : Fin (2 ^ 11) → EReal) (i : Fin (2 ^ 11)) : Fin (2 ^ 11) := sortedFrom (fun k k' => decide (x k' < x k)) i

/-- After as many trips as there are exchanges the row's entries are in the order of the stable descending sort. -/
theorem rowEntries_end (x : Fin (2 ^ 11) → EReal) (N : Nat) (hN : (stages 11).length = N) (i : Fin (2 ^ 11)) :
    rowEntries x N i = entry (x (sorted x i)) (sorted x i) := by
  unfold sorted
  refine run_exchanges x N hN (rowEntries x) ?_ ?_ i
  · rw [rowEntries]
  · intro k hk
    rw [rowEntries, dif_pos hk]

theorem score_entry (x : EReal) (i : Fin (2 ^ 11)) : (entry x i).score = x := rfl

theorem col_entry (x : EReal) (i : Fin (2 ^ 11)) : (entry x i).col = i := rfl

/-- THE LOOP ON ONE ROW: the row is left sorted, each place with its score and its column. -/
theorem steps_sorted {ks js : Vec Ideal S66 .i32} (T : Tables ks js) (init : State) (r : Fin 256) (x : Fin (2 ^ 11) → EReal)
    (h1 : ∀ i : Fin (2 ^ 11), init.1 (ix2 r i) = x i) (h2 : ∀ i : Fin (2 ^ 11), init.2 (ix2 r i) = BitVec.ofNat 32 i.val)
    (N : Nat) (hN : N = 66) (i : Fin (2 ^ 11)) :
    (steps ks js init N).1 (ix2 r i) = x (sorted x i) ∧ (steps ks js init N).2 (ix2 r i) = BitVec.ofNat 32 (sorted x i).val := by
  have h0 : Holds init r fun i => entry (x i) i := fun i => ⟨h1 i, h2 i⟩
  have h := steps_holds T init r x h0 N (Nat.le_of_eq hN) i
  obtain ⟨ha, hb⟩ := h
  rw [rowEntries_end x N (stages_length.trans hN.symm) i] at ha hb
  rw [score_entry] at ha
  rw [col_entry] at hb
  exact ⟨ha, hb⟩

end Cert.KernelIdeal.Row
-- ==== Proof.Scores.lean ====
/-
  THE SCORES OF ONE BLOCK, and what the kernel does with the sorted block. At row `r` and column `i` a block's score is the sum over the
  sixteen heads of the head's weight times the positive part of the scaled dot product; above the diagonal it is minus infinity.
-/
module

public import proofs.«01_k».proof.Proof.Block
public import Idealize.ShloMosaic.Lib.Pointwise

@[expose] public section

set_option maxRecDepth 16384

noncomputable section

namespace Cert.KernelIdeal.Row

open Cert.KernelIdeal Cert.KernelIdeal.Gen Idealize.ShloMosaic

/-- The score of one query against one key: `W` the heads' weights, `Q` the query's heads, `K` the key. -/
def score (Q : Fin 16 → Fin 128 → EReal) (K : Fin 128 → EReal) (W : Fin 16 → EReal) : EReal :=
  ∑ h, W h * max ((∑ d, Q h d * K d) * Ideal.ofBits FTy.f32 1035273459#32) 0

/-- A sum over the sixteen heads, written out. -/
theorem sum_heads (f : Fin 16 → EReal) :
    ∑ h, f h = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

/-- The fill's name stands for minus infinity. -/
theorem mask_bot : (Named.named κ "mask" 4048155338#32 : Ideal .f32) = (⊥ : EReal) := by rfl

/-- So does the cut's. -/
theorem cut_bot : (Named.named κ "cut" 4020342536#32 : Ideal .f32) = (⊥ : EReal) := by rfl

/-- The tie-breaking step of the fill is 2⁻²⁰. -/
theorem step_eq : Ideal.ofBits FTy.f32 897581056#32 = (((1 : ℝ) / 1048576 : ℝ) : EReal) := by
  simp [Ideal.ofBits, Ideal.ieee, -EReal.coe_mul]; norm_num

/-- The fill times a positive number is minus infinity. -/
theorem fill_bot (i : Fin 2048) :
    (⊥ : EReal) * (1 + FloatOps.sitofp (F := Ideal) FTy.f32 (BitVec.ofNat 32 i.val) * Ideal.ofBits FTy.f32 897581056#32) = ⊥ := by
  apply EReal.bot_mul_of_pos
  have hi : (BitVec.ofNat 32 i.val).toInt = (i.val : Int) := by
    rw [BitVec.toInt_eq_toNat_of_lt (by rw [BitVec.toNat_ofNat]; omega), BitVec.toNat_ofNat, Nat.mod_eq_of_lt (by omega)]
  show (0 : EReal) < 1 + (((BitVec.ofNat 32 i.val).toInt : ℝ) : EReal) * Ideal.ofBits FTy.f32 897581056#32
  rw [hi, step_eq, ← EReal.coe_mul, ← EReal.coe_one, ← EReal.coe_add, EReal.coe_pos]
  positivity

/-- The causal test: column `i` against row `r` of block `t`. -/
theorem causal_word (t : Nat) (ht : t < 8) (r : Fin 256) (i : Fin 2048) :
    IntOp.cmpi CmpIPredicate.sle (BitVec.ofNat 32 i.val) (IntOp.addi (Scalar.muli (BitVec.ofNat 32 t) 256#32) (BitVec.ofNat 32 r.val))
      = BitVec.ofBool (decide (i.val ≤ 256 * t + r.val)) := by
  have hi := i.isLt
  have hr := r.isLt
  show BitVec.ofBool ((BitVec.ofNat 32 i.val).sle (BitVec.ofNat 32 t * 256#32 + BitVec.ofNat 32 r.val)) = _
  have e : BitVec.ofNat 32 t * 256#32 + BitVec.ofNat 32 r.val = BitVec.ofNat 32 (256 * t + r.val) := by
    apply BitVec.eq_of_toNat_eq
    simp only [BitVec.toNat_add, BitVec.toNat_mul, BitVec.toNat_ofNat]
    omega
  rw [e]
  congr 1
  rw [BitVec.sle_eq_decide, BitVec.toInt_eq_toNat_of_lt (by rw [BitVec.toNat_ofNat]; omega),
    BitVec.toInt_eq_toNat_of_lt (by rw [BitVec.toNat_ofNat]; omega), BitVec.toNat_ofNat, BitVec.toNat_ofNat,
    Nat.mod_eq_of_lt (by omega), Nat.mod_eq_of_lt (by omega)]
  simp only [Nat.cast_le]

/-- ONE ENTRY of the masked block. -/
theorem scores_at (t : Nat) (ht : t < 8) (x2 : Vec Ideal S256x2048 .bf16) (x3 : Vec Ideal S256x16 .bf16)
    (x4 : Vec Ideal S2048x128 .bf16) (r : Fin 256) (i : Fin 2048) :
    blockScores (BitVec.ofNat 32 t) x2 x3 x4 (ix2 r i)
      = if i.val ≤ 256 * t + r.val then
          score (fun h d => x2 (ix2 r ⟨128 * h.val + d.val, by omega⟩)) (fun d => x4 (ix2 i d)) (fun h => x3 (ix2 r h))
        else (⊥ : EReal) := by
  unfold blockScores
  pointwise [k0_pay1, k0_pay2, k0_pay3, k0_pay4, k0_pay5, k0_pay6, k0_pay7, k0_pay8, k0_pay9, k0_pay10, k0_pay11, k0_pay12]
  rw [causal_word t ht, mask_bot, fill_bot]
  by_cases h : i.val ≤ 256 * t + r.val
  · rw [decide_eq_true h, if_pos h]
    unfold score
    rw [sum_heads]
    simp only [Fin.val_zero, Nat.mul_zero, Nat.zero_add]
    rfl
  · rw [decide_eq_false h, if_neg h]
    rfl

/-- The columns the loop starts from. -/
theorem cols_at (r : Fin 256) (i : Fin 2048) : blockCols (ix2 r i) = BitVec.ofNat 32 i.val := by
  unfold blockCols
  pointwise

/-- The last replacement changes nothing: what is at most minus infinity is minus infinity. -/
theorem vals_at (x : FVec Ideal S256x2048 .f32) (r : Fin 256) (i : Fin 512) :
    k0_pay20 x (ix2 r i) = x (ix2 r ⟨i.val, by omega⟩) := by
  pointwise [k0_pay20]
  rw [mask_bot, cut_bot]
  split
  · rename_i h
    exact (le_bot_iff.mp h).symm
  · rfl

theorem idxs_at (y : IVec S256x2048 32) (r : Fin 256) (i : Fin 512) :
    k0_pay19 y (ix2 r i) = y (ix2 r ⟨i.val, by omega⟩) := by
  pointwise [k0_pay19]

end Cert.KernelIdeal.Row
-- ==== Proof.Arrays.lean ====
/-
  THE KERNEL'S TWO RESULT ARRAYS after its run, as functions of the arrays its windows read: at row `n` and place `i`, the score and the
  column that the stable descending sort of row `n`'s masked scores puts at place `i`.
-/
module

public import proofs.«01_k».proof.Proof.Stage
public import proofs.«01_k».proof.Proof.Scores
public import Idealize.ShloMosaic.Lib.Claim

@[expose] public section

set_option maxRecDepth 16384

noncomputable section

namespace Cert.KernelIdeal.Row

open Cert.KernelIdeal Cert.KernelIdeal.Gen Cert.RowSort Idealize.ShloMosaic Idealize.ShloMosaic.TcCoe Idealize.SL.Sem

/-- The masked scores of row `n` of the whole array, from the queries `qs`, the weights `ws` and the keys `ks`. -/
def rowScores (qs : S2048x2048.Idx → EReal) (ws : S2048x16.Idx → EReal) (ks : S2048x128.Idx → EReal) (n : Fin 2048) (i : Fin (2 ^ 11)) : EReal :=
  if i.val ≤ n.val then
    score (fun h d => qs (ix2 n ⟨128 * h.val + d.val, by omega⟩)) (fun d => ks (ix2 (⟨i.val, i.isLt⟩ : Fin 2048) d)) (fun h => ws (ix2 n h))
  else ⊥

/-- The greatest 512 scores of each row, in order. -/
def topVals (X : Fin 2048 → Fin (2 ^ 11) → EReal) : S2048x512.Idx → EReal := fun y =>
  X (y 0) (sorted (X (y 0)) ⟨(y 1).val, lt_of_lt_of_le (y 1).isLt (by decide)⟩)

/-- Their columns. -/
def topCols (X : Fin 2048 → Fin (2 ^ 11) → EReal) : S2048x512.Idx → BitVec 32 := fun y =>
  BitVec.ofNat 32 (sorted (X (y 0)) ⟨(y 1).val, lt_of_lt_of_le (y 1).isLt (by decide)⟩).val

/-- One block: the loop over the block's scores. -/
theorem block_sorted {ks js : Vec Ideal S66 .i32} (T : Tables ks js) (t : Nat) (ht : t < 8) (x2 : Vec Ideal S256x2048 .bf16)
    (x3 : Vec Ideal S256x16 .bf16) (x4 : Vec Ideal S2048x128 .bf16) (X : Fin 2048 → Fin (2 ^ 11) → EReal) (r : Fin 256)
    (hX : ∀ i : Fin (2 ^ 11), blockScores (BitVec.ofNat 32 t) x2 x3 x4 (ix2 r i) = X ⟨256 * t + r.val, by omega⟩ i) (i : Fin 512) :
    k0_pay20 (F := Ideal) (steps ks js (blockScores (BitVec.ofNat 32 t) x2 x3 x4, blockCols) 66).1 (ix2 r i)
        = topVals X (ix2 ⟨256 * t + r.val, by omega⟩ i)
      ∧ k0_pay19 (steps ks js (blockScores (BitVec.ofNat 32 t) x2 x3 x4, blockCols) 66).2 (ix2 r i)
        = topCols X (ix2 ⟨256 * t + r.val, by omega⟩ i) := by
  have h := steps_sorted T (blockScores (BitVec.ofNat 32 t) x2 x3 x4, blockCols) r (X ⟨256 * t + r.val, by omega⟩) hX
    (fun i => cols_at r i) 66 rfl ⟨i.val, lt_of_lt_of_le i.isLt (by decide)⟩
  exact ⟨(vals_at _ r i).trans h.1, (idxs_at _ r i).trans h.2⟩

theorem idx_facts : ∀ t : Fin grid0.N, win0_0.index t = ![0] ∧ win0_1.index t = ![0] ∧ win0_2.index t = ![t.val, 0]
    ∧ win0_3.index t = ![t.val, 0] ∧ win0_4.index t = ![0, 0] ∧ win0_5.index t = ![t.val, 0] ∧ win0_6.index t = ![t.val, 0]
    ∧ (grid0.coords t 0).val = t.val := by decide +kernel

variable (m : (ℓ : Loc nD τ sig) → Buf (Elt Ideal) ℓ) (c : Dev nD)

/-- The masked scores from the arrays the windows read. -/
abbrev scoresOf : Fin 2048 → Fin (2 ^ 11) → EReal :=
  rowScores (V (F := Ideal) m c main_v46) (V (F := Ideal) m c main_v48) (V (F := Ideal) m c main_v50)

/-- A window of 256 rows of the queries, at an index. -/
theorem q_at (t : Fin grid0.N) (ht : t.val < 8) (r : Fin 256) (k : Fin 2048) :
    iblk (F := Ideal) m c 2 t (ix2 r k) = V (F := Ideal) m c main_v46 (ix2 (⟨256 * t.val + r.val, by omega⟩ : Fin 2048) k) := by
  obtain ⟨-, -, h2, -⟩ := idx_facts t
  blk_ext [iblk, h2]

/-- A window of 256 rows of the weights, at an index. -/
theorem w_at (t : Fin grid0.N) (ht : t.val < 8) (r : Fin 256) (k : Fin 16) :
    iblk (F := Ideal) m c 3 t (ix2 r k) = V (F := Ideal) m c main_v48 (ix2 (⟨256 * t.val + r.val, by omega⟩ : Fin 2048) k) := by
  obtain ⟨-, -, -, h3, -⟩ := idx_facts t
  blk_ext [iblk, h3]

/-- The window of the keys is the whole array. -/
theorem k_at (t : Fin grid0.N) (j : Fin 2048) (k : Fin 128) :
    iblk (F := Ideal) m c 4 t (ix2 j k) = V (F := Ideal) m c main_v50 (ix2 j k) := by
  obtain ⟨-, -, -, -, h4, -⟩ := idx_facts t
  blk_ext [iblk, h4]

/-- The block's scores at point `t` are rows `256 t …` of the whole array's. -/
theorem block_rows (t : Fin grid0.N) (ht : t.val < 8) (r : Fin 256) (i : Fin 2048) :
    blockScores (BitVec.ofNat 32 t.val) (iblk (F := Ideal) m c 2 t) (iblk (F := Ideal) m c 3 t) (iblk (F := Ideal) m c 4 t) (ix2 r i)
      = scoresOf m c ⟨256 * t.val + r.val, by omega⟩ i := by
  rw [scores_at t.val ht]
  unfold scoresOf rowScores
  refine if_congr Iff.rfl ?_ rfl
  simp only [q_at m c t ht, w_at m c t ht, k_at m c t]

/-- The level table's words are the network's block sizes. -/
theorem level_words : ∀ n : Fin 66, (lit0 n).toNat = 2 ^ ((stages 11)[n.val]'(by rw [stages_length]; exact n.isLt)).1.succ := by
  decide +kernel

/-- The distance table's words are the network's distances. -/
theorem dist_words : ∀ n : Fin 66, (lit1 n).toNat = 2 ^ ((stages 11)[n.val]'(by rw [stages_length]; exact n.isLt)).2 := by
  decide +kernel

/-- The level table as a window holds it. -/
theorem level_at (t : Fin grid0.N) (n : Fin 66) : iblk (F := Ideal) m c 0 t (ix1 n) = lit0 n := by
  obtain ⟨h0, -⟩ := idx_facts t
  have e : iblk (F := Ideal) m c 0 t (ix1 n) = V (F := Ideal) m c main_c (ix1 n) := by blk_ext [iblk, h0]
  rw [e]
  entry_read
  exact congrArg lit0 (Fin.ext (Shape.rowMajor_val_one ..))

/-- The distance table as a window holds it. -/
theorem dist_at (t : Fin grid0.N) (n : Fin 66) : iblk (F := Ideal) m c 1 t (ix1 n) = lit1 n := by
  obtain ⟨-, h1, -⟩ := idx_facts t
  have e : iblk (F := Ideal) m c 1 t (ix1 n) = V (F := Ideal) m c main_c_0 (ix1 n) := by blk_ext [iblk, h1]
  rw [e]
  entry_read
  exact congrArg lit1 (Fin.ext (Shape.rowMajor_val_one ..))

/-- So the two windows hold the network's tables. -/
theorem tables (t : Fin grid0.N) : Tables (iblk (F := Ideal) m c 0 t) (iblk (F := Ideal) m c 1 t) where
  level := fun n h => (congrArg BitVec.toNat (level_at m c t ⟨n, h⟩)).trans (level_words ⟨n, h⟩)
  dist := fun n h => (congrArg BitVec.toNat (dist_at m c t ⟨n, h⟩)).trans (dist_words ⟨n, h⟩)

/-- An index of a block is its two coordinates. -/
theorem idx2_eta (y : S256x512.Idx) : y = ix2 (y 0) (y 1) := by
  funext a
  fin_cases a <;> rfl

/-- What point `t` leaves in output window 5. -/
theorem block5_at (t : Fin grid0.N) (ht : t.val < 8) (y : S256x512.Idx) :
    (outsAt0 (F := Ideal) m c t).1 y = topVals (scoresOf m c) ((win0_5.blk t).view.emb y) := by
  obtain ⟨-, -, -, -, -, h5, h6, hc⟩ := idx_facts t
  have e : (win0_5.blk t).view.emb y = ix2 (⟨256 * t.val + (y 0).val, by have : (y 0).val < 256 := (y 0).isLt; omega⟩ : Fin 2048) (y 1) := by
    blk_ext [h5]
  rw [e]
  unfold outsAt0
  dsimp only
  rw [out5_eq, hc]
  have h := (block_sorted (tables m c t) t.val ht (iblk (F := Ideal) m c 2 t) (iblk (F := Ideal) m c 3 t) (iblk (F := Ideal) m c 4 t)
    (scoresOf m c) (y 0) (fun i => block_rows m c t ht (y 0) i) (y 1)).1
  rw [show y = ix2 (y 0) (y 1) from idx2_eta y]
  exact h

/-- What point `t` leaves in output window 6. -/
theorem block6_at (t : Fin grid0.N) (ht : t.val < 8) (y : S256x512.Idx) :
    (outsAt0 (F := Ideal) m c t).2 y = topCols (scoresOf m c) ((win0_6.blk t).view.emb y) := by
  obtain ⟨-, -, -, -, -, h5, h6, hc⟩ := idx_facts t
  have e : (win0_6.blk t).view.emb y = ix2 (⟨256 * t.val + (y 0).val, by have : (y 0).val < 256 := (y 0).isLt; omega⟩ : Fin 2048) (y 1) := by
    blk_ext [h6]
  rw [e]
  unfold outsAt0
  dsimp only
  rw [out6_eq, hc]
  have h := (block_sorted (tables m c t) t.val ht (iblk (F := Ideal) m c 2 t) (iblk (F := Ideal) m c 3 t) (iblk (F := Ideal) m c 4 t)
    (scoresOf m c) (y 0) (fun i => block_rows m c t ht (y 0) i) (y 1)).2
  rw [show y = ix2 (y 0) (y 1) from idx2_eta y]
  exact h

/-- THE SCORES' ARRAY after the run. -/
theorem final5 : (dats (F := Ideal) m 0 c).arrAt 5 cfg0.N = topVals (scoresOf m c) := by
  refine (dats m 0 c).arrAt_eq_of_covers 5 _ (by decide +kernel) fun t hf y => ?_
  blk_simp
  rw [after0_5]
  exact block5_at m c t t.isLt y

/-- THE COLUMNS' ARRAY after the run. -/
theorem final6 : (dats (F := Ideal) m 0 c).arrAt 6 cfg0.N = topCols (scoresOf m c) := by
  refine (dats m 0 c).arrAt_eq_of_covers 6 _ (by decide +kernel) fun t hf y => ?_
  blk_simp
  rw [after0_6]
  exact block6_at m c t t.isLt y

end Cert.KernelIdeal.Row
-- ==== Proof.Host.lean ====
/-
  WHAT THE KERNEL'S WINDOWS READ: the queries, the key and the weights that the host passes are the projections, flattened.
-/
module

public import proofs.«01_k».proof.Proof.Projections
public import proofs.«01_k».proof.Proof.Arrays

@[expose] public section

set_option maxRecDepth 16384

noncomputable section

namespace Cert.KernelIdeal.Row

open Cert.KernelIdeal Cert.KernelIdeal.Gen Idealize.ShloMosaic Idealize.ShloMosaic.TcCoe Idealize.SL.Sem

/-- Flattened heads, at an index. -/
theorem flat_heads (x : FVec Ideal S1x2048x16x128 .f32) (n : Fin 2048) (h : Fin 16) (d : Fin 128) :
    truncf .bf16 (shapeCast _ (shapeCast _ x shapeCasts_S1x2048x16x128_S2048x16x128) shapeCasts_S2048x16x128_S2048x2048) bitsLt_bf16_f32
        (ix2 n (⟨128 * h.val + d.val, by omega⟩ : Fin 2048))
      = x (ix4 (0 : Fin 1) n h d) := by
  pointwise

/-- Flattened weights, at an index. -/
theorem flat_weights (x : FVec Ideal S1x2048x16 .f32) (n : Fin 2048) (h : Fin 16) :
    truncf .bf16 (shapeCast _ x shapeCasts_S1x2048x16_S2048x16) bitsLt_bf16_f32 (ix2 n h) = x (ix3 (0 : Fin 1) n h) := by
  pointwise

/-- The flattened key, at an index. -/
theorem flat_key (x : FVec Ideal S1x2048x128 .f32) (i : Fin 2048) (d : Fin 128) :
    truncf .bf16 (shapeCast _ x shapeCasts_S1x2048x128_S2048x128) bitsLt_bf16_f32 (ix2 i d) = x (ix3 (0 : Fin 1) i d) := by
  pointwise

variable (m : (ℓ : Loc nD τ sig) → Buf (Elt Ideal) ℓ) (c : Dev nD)

/-- The queries the windows read. -/
theorem q_host : V (F := Ideal) m c main_v46
    = truncf .bf16 (shapeCast _ (shapeCast _ (Cert.ReferenceIdeal.Row.queries (m ((c : Thread nD τ).loc main_arg0)) (m ((c : Thread nD τ).loc main_arg1)) (m ((c : Thread nD τ).loc main_arg4))
        (m ((c : Thread nD τ).loc main_arg5))) shapeCasts_S1x2048x16x128_S2048x16x128) shapeCasts_S2048x16x128_S2048x2048) bitsLt_bf16_f32 := by
  entry_read
  rfl

/-- The weights the windows read. -/
theorem w_host : V (F := Ideal) m c main_v48
    = truncf .bf16 (shapeCast _ (Cert.ReferenceIdeal.Row.weights (m ((c : Thread nD τ).loc main_arg0)) (m ((c : Thread nD τ).loc main_arg3)))
        shapeCasts_S1x2048x16_S2048x16) bitsLt_bf16_f32 := by
  entry_read
  rfl

/-- The key the windows read. -/
theorem k_host : V (F := Ideal) m c main_v50
    = truncf .bf16 (shapeCast _ (Cert.ReferenceIdeal.Row.keys (m ((c : Thread nD τ).loc main_arg0)) (m ((c : Thread nD τ).loc main_arg2))
        (m ((c : Thread nD τ).loc main_arg4)) (m ((c : Thread nD τ).loc main_arg5))) shapeCasts_S1x2048x128_S2048x128) bitsLt_bf16_f32 := by
  entry_read
  rfl

end Cert.KernelIdeal.Row
-- ==== Proof.Reference.lean ====
/-
  THE REFERENCE'S TWO RESULTS: at row `n` and place `i`, the score and the column that the stable descending sort of row `n`'s masked
  scores puts at place `i`.

-/
module

public import proofs.«01_k».proof.Proof.Projections
public import proofs.«01_k».proof.Proof.Arrays

@[expose] public section

set_option maxRecDepth 16384

noncomputable section

namespace Cert.ReferenceIdeal.Row

open Cert.ReferenceIdeal Cert.ReferenceIdeal.Gen Cert.ReferenceIdeal.Value Cert.RowSort Cert.KernelIdeal.Row Idealize.ShloMosaic Idealize.ShloMosaic.TcCoe Idealize.SL.Sem

/-- The masked scores of all rows, as the reference writes them. -/
def masked (q : FVec Ideal S1x2048x16x128 .f32) (k : FVec Ideal S1x2048x128 .f32) (w : FVec Ideal S1x2048x16 .f32) :
    FVec Ideal S1x2048x2048 .f32 :=
  select (broadcastInDim S1x2048x2048 ![1, 2] bcast_S2048x2048_S1x2048x2048_1_2
      (select (cmpi .sge (addi (iotaInDim S2048x2048 32 0) (broadcastInDim S2048x2048 ![] bcast_S_S2048x2048 (constantI S_ 32 0#32))) (iotaInDim S2048x2048 32 1))
        (broadcastInDim S2048x2048 ![] bcast_S_S2048x2048 (constantI S_ 1 1#1)) (broadcastInDim S2048x2048 ![] bcast_S_S2048x2048 (constantI S_ 1 0#1))))
    (Host.dotGeneral (F := Ideal) dot_S1x2048x16_S1x2048x16x2048_S1x2048x2048_2_2_n_3_01_01 none w
      (maximumf (mulf (Host.dotGeneral (F := Ideal) dot_S1x2048x16x128_S1x2048x128_S1x2048x16x2048_3_2_12_1_0_0 none q k)
          (broadcastInDim S1x2048x16x2048 ![] bcast_S_S1x2048x16x2048 (constant S_ .f32 0x3DB504F3#32)))
        (broadcastInDim S1x2048x16x2048 ![] bcast_S_S1x2048x16x2048 (constant S_ .f32 0x00000000#32))))
    (broadcastInDim S1x2048x2048 ![] bcast_S_S1x2048x2048 (id (constant S_ .f32 0xFF800000#32)))

/-- The fill is minus infinity. -/
theorem fill_bot : Ideal.ofBits FTy.f32 4286578688#32 = ⊥ := by
  simp [Ideal.ofBits, Ideal.ieee]

/-- The causal word of query `n` and key `i`. -/
theorem causal_bit (n i : Fin 2048) :
    IntOp.cmpi .sge (IntOp.addi (BitVec.ofNat 32 n.val) 0#32) (BitVec.ofNat 32 i.val) = BitVec.ofBool (decide (i.val ≤ n.val)) := by
  have hi := i.isLt
  have hn := n.isLt
  show BitVec.ofBool ((BitVec.ofNat 32 i.val).sle (BitVec.ofNat 32 n.val + 0#32)) = _
  rw [BitVec.add_zero, BitVec.sle_eq_decide, BitVec.toInt_eq_toNat_of_lt (by rw [BitVec.toNat_ofNat]; omega),
    BitVec.toInt_eq_toNat_of_lt (by rw [BitVec.toNat_ofNat]; omega), BitVec.toNat_ofNat, BitVec.toNat_ofNat,
    Nat.mod_eq_of_lt (by omega), Nat.mod_eq_of_lt (by omega)]
  congr 1
  exact decide_eq_decide.mpr Int.ofNat_le

/-- A masked score is the sum over the heads at or before the query, and minus infinity after it. -/
theorem masked_at (q : FVec Ideal S1x2048x16x128 .f32) (k : FVec Ideal S1x2048x128 .f32) (w : FVec Ideal S1x2048x16 .f32) (n i : Fin 2048) :
    masked q k w (ix3 (0 : Fin 1) n i) = if i.val ≤ n.val then
      score (fun h d => q (ix4 (0 : Fin 1) n h d)) (fun d => k (ix3 (0 : Fin 1) i d)) (fun h => w (ix3 (0 : Fin 1) n h)) else (⊥ : EReal) := by
  unfold masked
  pointwise
  rw [causal_bit]
  by_cases h : i.val ≤ n.val
  · rw [decide_eq_true h, if_pos h]
    rfl
  · rw [decide_eq_false h, if_neg h]
    exact fill_bot

/-- Row `n` of a batch of one. -/
def row (x : FVec Ideal S1x2048x2048 .f32) (n : Fin 2048) (k : Fin (2 ^ 11)) : EReal := x (ix3 (0 : Fin 1) n (⟨k.val, k.isLt⟩ : Fin 2048))

/-- The comparator of the reference's sort. -/
theorem before_at (a b : EReal) : (FloatOps.cmpfTotal (F := Ideal) (φ := .f32) .gt a b == 1#1) = decide (b < a) := by
  show (BitVec.ofBool (decide (b < a)) == 1#1) = decide (b < a)
  cases decide (b < a) <;> rfl

/-- A descending sort of two arrays along an axis, at an index: both are read where the stable sort of the fibre's entries says. -/
theorem sort_fibre (s : Shape) (a : Fin s.rank) (x : FVec Ideal s .f32) (y : IVec s 32) (j : s.Idx) {N : Nat} (hN : s.size a = N)
    (r : Fin N → EReal) (hr : ∀ k : Fin (s.size a), x (j.along a k) = r (k.cast hN)) (i : Fin N) (hi : (j a).cast hN = i) :
    (Host.sort2 s a.val (fun l r => FloatOps.cmpfTotal (F := Ideal) (φ := .f32) .gt l.1 r.1) x y).1 j
        = r (sortedFrom (fun k k' => decide (r k' < r k)) i)
      ∧ (Host.sort2 s a.val (fun l r => FloatOps.cmpfTotal (F := Ideal) (φ := .f32) .gt l.1 r.1) x y).2 j
        = y (j.along a ((sortedFrom (fun k k' => decide (r k' < r k)) i).cast hN.symm)) := by
  subst hN hi
  have e : (fun k k' : Fin (s.size a) => FloatOps.cmpfTotal (F := Ideal) (φ := .f32) .gt (x (j.along a k)) (x (j.along a k')) == 1#1)
      = fun k k' => decide (r k' < r k) := by
    funext k k'
    rw [before_at, hr k, hr k']
    rfl
  unfold Host.sort2
  rw [dif_pos a.isLt]
  dsimp only
  rw [e]
  exact ⟨hr _, rfl⟩

/-- The index whose last coordinate is replaced. -/
theorem along_last (n i k : Fin 2048) :
    Shape.Idx.along (s := S1x2048x2048) (ix3 (0 : Fin 1) n i) (2 : Fin 3) k = ix3 (0 : Fin 1) n k := by
  funext a
  fin_cases a <;> rfl

/-- The greatest entries of a row, and their columns. -/
theorem top_at (x : FVec Ideal S1x2048x2048 .f32) (n : Fin 2048) (i : Fin 512) :
    (Host.topK S1x2048x512 2 (FloatOps.cmpfTotal (F := Ideal) (φ := .f32) .gt) x sliceFits_S1x2048x2048_S1x2048x512).1 (ix3 (0 : Fin 1) n i)
        = row x n (sorted (row x n) ⟨i.val, lt_of_lt_of_le i.isLt (by decide)⟩)
      ∧ (Host.topK S1x2048x512 2 (FloatOps.cmpfTotal (F := Ideal) (φ := .f32) .gt) x sliceFits_S1x2048x2048_S1x2048x512).2 (ix3 (0 : Fin 1) n i)
        = BitVec.ofNat 32 (sorted (row x n) ⟨i.val, lt_of_lt_of_le i.isLt (by decide)⟩).val := by
  have h := fun y => sort_fibre S1x2048x2048 (2 : Fin 3) x y (ix3 (0 : Fin 1) n (⟨i.val, by omega⟩ : Fin 2048)) (N := 2 ^ 11) rfl (row x n)
    (fun k => congrArg x (along_last n _ k)) ⟨i.val, lt_of_lt_of_le i.isLt (by decide)⟩ rfl
  unfold sorted
  generalize sortedFrom (fun k k' => decide (row x n k' < row x n k)) (⟨i.val, lt_of_lt_of_le i.isLt (by decide)⟩ : Fin (2 ^ 11)) = p at h ⊢
  have hj : (fun a : Fin 3 => (⟨0 + (ix3 (0 : Fin 1) n i a).val, Nat.lt_of_lt_of_le (Nat.add_lt_add_left (ix3 (0 : Fin 1) n i a).isLt _)
      (sliceFits_S1x2048x2048_S1x2048x512.2 a)⟩ : Fin (S1x2048x2048.size a))) = ix3 (0 : Fin 1) n (⟨i.val, by omega⟩ : Fin 2048) := by
    funext a
    fin_cases a <;> exact Fin.ext (Nat.zero_add _)
  unfold Host.topK
  dsimp only
  unfold extractStridedSlice
  constructor
  · refine (congrArg _ hj).trans (h _).1
  · refine ((congrArg _ hj).trans (h _).2).trans ?_
    exact congrArg (iotaInDim S1x2048x2048 32 (2 : Fin 3)) (along_last n (⟨i.val, by omega⟩ : Fin 2048) p)

/-- The rows of the reference's masked scores. -/
theorem row_masked (q : FVec Ideal S1x2048x16x128 .f32) (k : FVec Ideal S1x2048x128 .f32) (w : FVec Ideal S1x2048x16 .f32)
    (qs : S2048x2048.Idx → EReal) (ws : S2048x16.Idx → EReal) (ks : S2048x128.Idx → EReal)
    (hq : ∀ (n : Fin 2048) (h : Fin 16) (d : Fin 128), qs (ix2 n (⟨128 * h.val + d.val, by omega⟩ : Fin 2048)) = q (ix4 (0 : Fin 1) n h d))
    (hw : ∀ (n : Fin 2048) (h : Fin 16), ws (ix2 n h) = w (ix3 (0 : Fin 1) n h))
    (hk : ∀ (i : Fin 2048) (d : Fin 128), ks (ix2 i d) = k (ix3 (0 : Fin 1) i d)) (n : Fin 2048) :
    row (masked q k w) n = rowScores qs ws ks n := by
  funext i
  refine (masked_at q k w n (⟨i.val, i.isLt⟩ : Fin 2048)).trans ?_
  unfold rowScores
  refine if_congr Iff.rfl ?_ rfl
  simp only [hq, hw, hk]

variable (m : (ℓ : Loc nD τ sig) → Buf (Elt Ideal) ℓ) (c : Dev nD)

/-- The masked scores that the reference's run computes. -/
abbrev maskedOf : FVec Ideal S1x2048x2048 .f32 :=
  masked (queries (m ((c.tc : Thread nD τ).loc main_arg0)) (m ((c.tc : Thread nD τ).loc main_arg1)) (m ((c.tc : Thread nD τ).loc main_arg4)) (m ((c.tc : Thread nD τ).loc main_arg5)))
    (keys (m ((c.tc : Thread nD τ).loc main_arg0)) (m ((c.tc : Thread nD τ).loc main_arg2)) (m ((c.tc : Thread nD τ).loc main_arg4)) (m ((c.tc : Thread nD τ).loc main_arg5)))
    (weights (m ((c.tc : Thread nD τ).loc main_arg0)) (m ((c.tc : Thread nD τ).loc main_arg3)))

/-- The first result: the greatest scores of every row. -/
theorem out0_eq : res_out0 (F := Ideal) m c = topVals (row (maskedOf m c)) := by
  have e : res_out0 (F := Ideal) m c = shapeCast S2048x512 (Host.topK S1x2048x512 2 (FloatOps.cmpfTotal (F := Ideal) (φ := .f32) .gt) (maskedOf m c)
      sliceFits_S1x2048x2048_S1x2048x512).1 shapeCasts_S1x2048x512_S2048x512 := by
    unfold res_out0 res_main_v53
    rfl
  rw [e]
  funext y
  obtain ⟨n, i, rfl⟩ : ∃ (n : Fin 2048) (i : Fin 512), y = ix2 n i := ⟨y 0, y 1, (ix2_eta y).symm⟩
  refine Eq.trans ?_ (top_at (maskedOf m c) n i).1
  generalize Host.topK S1x2048x512 2 (FloatOps.cmpfTotal (F := Ideal) (φ := .f32) .gt) (maskedOf m c) sliceFits_S1x2048x2048_S1x2048x512 = z
  pointwise

/-- The second result: their columns. -/
theorem out1_eq : res_out1 (F := Ideal) m c = topCols (row (maskedOf m c)) := by
  have e : res_out1 (F := Ideal) m c = shapeCast S2048x512 (Host.topK S1x2048x512 2 (FloatOps.cmpfTotal (F := Ideal) (φ := .f32) .gt) (maskedOf m c)
      sliceFits_S1x2048x2048_S1x2048x512).2 shapeCasts_S1x2048x512_S2048x512 := by
    unfold res_out1 res_main_v54
    rfl
  rw [e]
  funext y
  obtain ⟨n, i, rfl⟩ : ∃ (n : Fin 2048) (i : Fin 512), y = ix2 n i := ⟨y 0, y 1, (ix2_eta y).symm⟩
  refine Eq.trans ?_ (top_at (maskedOf m c) n i).2
  generalize Host.topK S1x2048x512 2 (FloatOps.cmpfTotal (F := Ideal) (φ := .f32) .gt) (maskedOf m c) sliceFits_S1x2048x2048_S1x2048x512 = z
  pointwise

end Cert.ReferenceIdeal.Row
-- ==== Proof.Equation.lean ====
/-
  THE EQUATION: on equal arguments, the masked scores that the reference sorts are those that the kernel sorts, row by row.
-/
module

public import proofs.«01_k».proof.Proof.Host
public import proofs.«01_k».proof.Proof.Reference

@[expose] public section

set_option maxRecDepth 16384

noncomputable section

namespace Cert.Equation

open Idealize.ShloMosaic Idealize.ShloMosaic.TcCoe Idealize.SL.Sem Cert.KernelIdeal.Row Cert.ReferenceIdeal.Row

/-- The rows of masked scores agree when the six arguments do. -/
theorem rows_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    row (maskedOf m' c) = scoresOf m c := by
  funext n
  unfold maskedOf scoresOf
  rw [h0, h1, h2, h3, h4, h5]
  refine row_masked _ _ _ _ _ _ (fun n h d => ?_) (fun n h => ?_) (fun i d => ?_) n
  · exact (congrFun (q_host m c) _).trans (flat_heads _ n h d)
  · exact (congrFun (w_host m c) _).trans (flat_weights _ n h)
  · exact (congrFun (k_host m c) _).trans (flat_key _ i d)

end Cert.Equation
-- ==== Proof.lean ====
/-
  THE CERTIFICATE: the three frames, the named constants, and the equality over the extended reals of the two programs' results —
  every row's greatest 512 masked scores and their columns.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Equation
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.KernelIdeal.Row Cert.ReferenceIdeal.Row

/-- The two named constants of the kernel stand for minus infinity. -/
theorem preserves : Cert.preserves_Kernel_KernelIdeal :=
  ⟨IdealRules.named_const.statement Cert.KernelIdeal.κ "mask" .f32 0xF149F2CA#32 ⊥ rfl,
    IdealRules.named_const.statement Cert.KernelIdeal.κ "cut" .f32 0xEFA18F08#32 ⊥ rfl⟩

/-- The reference's run leaves its arguments as they were, and it has no semaphore. -/
theorem quiescent_reference : Cert.quiescent_ReferenceIdeal (hReferenceIdeal := Cert.ReferenceIdeal.Gen.facts) :=
  fun m ρ _ => (θ_run _ _ _).mono (fun r h => ⟨fun c => (h c).2.2, sem_eq_zero_of_no_sems (by decide) r.2⟩) (Cert.ReferenceIdeal.Value.run m ρ)

/-- The kernel's results are the reference's. -/
theorem algebraic : Cert.algebraic_KernelIdeal_ReferenceIdeal (hKernelIdeal := Cert.KernelIdeal.Gen.facts)
    (hReferenceIdeal := Cert.ReferenceIdeal.Gen.facts) := fun m ρ m' ρ' _ hag =>
  ⟨fun c => topVals (scoresOf m c), fun c => topCols (scoresOf m c),
    (θ_run _ _ _).mono (fun _ h c => ⟨(h c).1.trans (final5 m c), (h c).2.1.trans (final6 m c), (h c).2.2⟩) (Cert.KernelIdeal.Value.run_blocks m ρ),
    (θ_run _ _ _).mono (fun _ h c => by
      obtain ⟨h0, h1, h2, h3, h4, h5⟩ := hag c
      have e := Cert.Equation.rows_eq m m' c h0 h1 h2 h3 h4 h5
      exact ⟨(h c).1.trans ((out0_eq m' c).trans (congrArg topVals e)), (h c).2.1.trans ((out1_eq m' c).trans (congrArg topCols e)), (h c).2.2⟩)
      (Cert.ReferenceIdeal.Value.run m' ρ')⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_reference, preserves, algebraic⟩

end Cert.Proof

end
